-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S4096x16384 : Shape := ⟨2, ![4096, 16384]⟩
abbrev S64x16384 : Shape := ⟨2, ![64, 16384]⟩
abbrev S128x8192 : Shape := ⟨2, ![128, 8192]⟩
abbrev S128x16384 : Shape := ⟨2, ![128, 16384]⟩
abbrev S4096x1024 : Shape := ⟨2, ![4096, 1024]⟩
abbrev S64x1024 : Shape := ⟨2, ![64, 1024]⟩
abbrev S128x1024 : Shape := ⟨2, ![128, 1024]⟩
abbrev S4096x1x1024 : Shape := ⟨3, ![4096, 1, 1024]⟩
abbrev S4096x2x1024 : Shape := ⟨3, ![4096, 2, 1024]⟩
abbrev S8192x1024 : Shape := ⟨2, ![8192, 1024]⟩
abbrev S64x128x1024 : Shape := ⟨3, ![64, 128, 1024]⟩
abbrev S64x1x1024 : Shape := ⟨3, ![64, 1, 1024]⟩
abbrev S128x1x16384 : Shape := ⟨3, ![128, 1, 16384]⟩

abbrev nBuf : Space → Nat
  | .hbm => 7
  | .vmem => 9
  | .smem => 0
  | _ => 0

abbrev bufTy : (tb : Table) → Fin (tcTables nBuf tb) → BufTy
  | .hbm, ⟨0, _⟩ => ⟨S128x1x8192, .bf16⟩
  | .hbm, ⟨1, _⟩ => ⟨S4096x16384, .i8⟩
  | .hbm, ⟨2, _⟩ => ⟨S64x16384, .bf16⟩
  | .hbm, ⟨3, _⟩ => ⟨S64x16384, .i8⟩
  | .hbm, ⟨4, _⟩ => ⟨S128x8192, .bf16⟩
  | .hbm, ⟨5, _⟩ => ⟨S128x16384, .bf16⟩
  | .hbm, ⟨6, _⟩ => ⟨S128x1x16384, .bf16⟩
  | .local _ .vmem, ⟨0, _⟩ => ⟨S128x8192, .bf16⟩
  | .local _ .vmem, ⟨1, _⟩ => ⟨S4096x1024, .i8⟩
  | .local _ .vmem, ⟨2, _⟩ => ⟨S4096x1024, .i8⟩
  | .local _ .vmem, ⟨3, _⟩ => ⟨S64x1024, .bf16⟩
  | .local _ .vmem, ⟨4, _⟩ => ⟨S64x1024, .bf16⟩
  | .local _ .vmem, ⟨5, _⟩ => ⟨S64x1024, .i8⟩
  | .local _ .vmem, ⟨6, _⟩ => ⟨S64x1024, .i8⟩
  | .local _ .vmem, ⟨7, _⟩ => ⟨S128x1024, .bf16⟩
  | .local _ .vmem, ⟨8, _⟩ => ⟨S128x1024, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x8192 : Shape := ⟨3, ![128, 1, 8192]⟩
abbrev S4096x16384 : Shape := ⟨2, ![4096, 16384]⟩
abbrev S64x16384 : Shape := ⟨2, ![64, 16384]⟩
abbrev S_ : Shape := ⟨0, ![]⟩
abbrev S4096x1x16384 : Shape := ⟨3, ![4096, 1, 16384]⟩
abbrev S4096x2x16384 : Shape := ⟨3, ![4096, 2, 16384]⟩
abbrev S64x128x16384 : Shape := ⟨3, ![64, 128, 16384]⟩
abbrev S64x1x16384 : Shape := ⟨3, ![64, 1, 16384]⟩
abbrev S8192x16384 : Shape := ⟨2, ![8192, 16384]⟩
abbrev S128x1x16384 : Shape := ⟨3, ![128, 1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S4096x16384, .i8⟩
  | .hbm, ⟨2, _⟩ => ⟨S64x16384, .bf16⟩
  | .hbm, ⟨3, _⟩ => ⟨S64x16384, .i8⟩
  | .hbm, ⟨4, _⟩ => ⟨S4096x16384, .i32⟩
  | .hbm, ⟨5, _⟩ => ⟨S_, .i32⟩
  | .hbm, ⟨6, _⟩ => ⟨S4096x16384, .i32⟩
  | .hbm, ⟨7, _⟩ => ⟨S4096x16384, .i32⟩
  | .hbm, ⟨8, _⟩ => ⟨S_, .i32⟩
  | .hbm, ⟨9, _⟩ => ⟨S4096x16384, .i32⟩
  | .hbm, ⟨10, _⟩ => ⟨S4096x16384, .i32⟩
  | .hbm, ⟨11, _⟩ => ⟨S4096x1x16384, .i32⟩
  | .hbm, ⟨12, _⟩ => ⟨S4096x1x16384, .i32⟩
  | .hbm, ⟨13, _⟩ => ⟨S4096x2x16384, .i32⟩
  | .hbm, ⟨14, _⟩ => ⟨S64x128x16384, .i32⟩
  | .hbm, ⟨15, _⟩ => ⟨S64x128x16384, .bf16⟩
  | .hbm, ⟨16, _⟩ => ⟨S64x16384, .i32⟩
  | .hbm, ⟨17, _⟩ => ⟨S64x16384, .bf16⟩
  | .hbm, ⟨18, _⟩ => ⟨S64x1x16384, .bf16⟩
  | .hbm, ⟨19, _⟩ => ⟨S64x128x16384, .bf16⟩
  | .hbm, ⟨20, _⟩ => ⟨S64x128x16384, .bf16⟩
  | .hbm, ⟨21, _⟩ => ⟨S64x1x16384, .bf16⟩
  | .hbm, ⟨22, _⟩ => ⟨S64x128x16384, .bf16⟩
  | .hbm, ⟨23, _⟩ => ⟨S64x128x16384, .bf16⟩
  | .hbm, ⟨24, _⟩ => ⟨S8192x16384, .bf16⟩
  | .hbm, ⟨25, _⟩ => ⟨S128x1x16384, .f32⟩
  | .hbm, ⟨26, _⟩ => ⟨S128x1x16384, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Spec.lean ====
/-
  The layer's mathematics, over plain functions of row and column numbers: the 4-bit codes of a packed byte, the
  weight a code stands for, and the product of the activations with the weights. Both programs are read as `linear`.
-/
module

public import Idealize.ShloMosaic.PureOps.Ideal.Laws

@[expose] public section

noncomputable section

namespace Cert.Proof.Spec

open Idealize.ShloMosaic
open scoped BigOperators

/-- The 4-bit code in half `h` of a packed byte: the low half for `h = 0`, the high half otherwise. -/
def code (b : BitVec 8) (h : Nat) : Nat := if h = 0 then b.toNat % 16 else b.toNat / 16

/-- The weight at input row `k`, output column `n`: the row's code (byte row `k / 2`, half `k % 2`) less its group's
    zero point, times its group's scale; a group is 128 consecutive rows. -/
def weight {N : Nat} (w : Fin 4096 → Fin N → BitVec 8) (s : Fin 64 → Fin N → EReal) (z : Fin 64 → Fin N → BitVec 8)
    (k : Fin 8192) (n : Fin N) : EReal :=
  ((((code (w ⟨k.val / 2, by omega⟩ n) (k.val % 2) : Nat) : ℝ) : EReal)
    - (((z ⟨k.val / 128, by omega⟩ n).toNat : ℝ) : EReal)) * s ⟨k.val / 128, by omega⟩ n

/-- The layer's output at row `r`, column `n`: the sum over the 8192 input rows of activation times weight. -/
def linear {N : Nat} (x : Fin 128 → Fin 8192 → EReal) (w : Fin 4096 → Fin N → BitVec 8) (s : Fin 64 → Fin N → EReal)
    (z : Fin 64 → Fin N → BitVec 8) (r : Fin 128) (n : Fin N) : EReal :=
  ∑ k : Fin 8192, x r k * weight w s z k n

/-- The output at a column reads that column of the packed codes, the scales and the zero points only. -/
theorem linear_column {N M : Nat} (f : Fin M → Fin N) (x : Fin 128 → Fin 8192 → EReal) (w : Fin 4096 → Fin N → BitVec 8)
    (s : Fin 64 → Fin N → EReal) (z : Fin 64 → Fin N → BitVec 8) (r : Fin 128) (n : Fin M) :
    linear x (fun k n => w k (f n)) (fun g n => s g (f n)) (fun g n => z g (f n)) r n = linear x w s z r (f n) := rfl

/-! ### The words both programs compute the codes by -/

/-- Masking the widened byte with 15 and truncating to 4 bits leaves the low code, read unsigned. -/
theorem low_toNat (b : BitVec 8) : ((IntOp.andi (b.setWidth 32) 15#32).setWidth 4).toNat = code b 0 := by
  revert b; decide +kernel

/-- Shifting the widened byte right by 4 and truncating to 4 bits leaves the high code, read unsigned. -/
theorem high_toNat (b : BitVec 8) : ((IntOp.shrsi .vector (b.setWidth 32) 4#32).setWidth 4).toNat = code b 1 := by
  revert b; decide +kernel

/-- Masking the widened byte with 15 leaves the low code, read signed at 32 bits. -/
theorem low_toInt (b : BitVec 8) : (IntOp.andi (b.setWidth 32) 15#32).toInt = (code b 0 : Int) := by
  revert b; decide +kernel

/-- Shifting the widened byte right by 4 leaves the high code, read signed at 32 bits. -/
theorem high_toInt (b : BitVec 8) : (IntOp.shrsi .host (b.setWidth 32) 4#32).toInt = (code b 1 : Int) := by
  revert b; decide +kernel

/-- A byte widened to 32 bits reads the same signed as the byte unsigned. -/
theorem wide_toInt (b : BitVec 8) : (b.setWidth 32).toInt = (b.toNat : Int) := by
  revert b; decide +kernel

end Cert.Proof.Spec

end
-- ==== Proof.Block.lean ====
/-
  What one grid point computes: the kernel body's one payload, read at an index as the layer on the point's columns.
-/
module

public import proofs.«01_k».proof.Proof.Spec
public import proofs.«01_k».proof.Proof.Gen.KernelIdeal.Skeleton
public import Idealize.ShloMosaic.Lib.Pipeline.Value
public import Idealize.ShloMosaic.Lib.MatmulPlain

@[expose] public section

noncomputable section

namespace Cert.Proof.Block

open Idealize.ShloMosaic Idealize.ShloMosaic.ValueIdx Idealize.SL.Sem
open Cert.KernelIdeal Cert.KernelIdeal.Gen Cert.Proof.Spec
open scoped BigOperators

/-- A byte block's two 4-bit halves stacked along a new middle axis, as words: row `2 r + h` of the flattened stack is half
    `h` of byte row `r`, read as an unsigned 4-bit number. -/
theorem codes_apply (lo hi : IVec S4096x1024 32) (b : Vec Ideal S4096x1024 .i8)
    (hlo : ∀ i, ((lo i).setWidth 4).toNat = code (b i) 0) (hhi : ∀ i, ((hi i).setWidth 4).toNat = code (b i) 1)
    (k : Fin 8192) (n : Fin 1024) :
    ((shapeCast S8192x1024 (concatenate S4096x2x1024 1
        [⟨S4096x1x1024, shapeCast S4096x1x1024 lo shapeCasts_S4096x1024_S4096x1x1024⟩,
         ⟨S4096x1x1024, shapeCast S4096x1x1024 hi shapeCasts_S4096x1024_S4096x1x1024⟩]
        concatenates_S4096x1x1024_S4096x1x1024_S4096x2x1024_d1) shapeCasts_S4096x2x1024_S8192x1024 (ix2 k n)).setWidth 4).toNat
      = code (b (ix2 ⟨k.val / 2, by omega⟩ n)) (k.val % 2) := by
  rw [shapeCast_apply _ shapeCasts_S4096x2x1024_S8192x1024 (ix2 k n)
    (ix3 ⟨k.val / 2, by omega⟩ ⟨k.val % 2, by omega⟩ n) (by
      rw [Shape.rowMajor_val_three, Shape.rowMajor_val_two]
      show (k.val / 2 * 2 + k.val % 2) * 1024 + n.val = k.val * 1024 + n.val
      omega)]
  rcases Nat.mod_two_eq_zero_or_one k.val with h | h
  · rw [concatenate_pair_apply_left 1 _ _ concatenates_S4096x1x1024_S4096x1x1024_S4096x2x1024_d1 _ rfl
      (ix3 ⟨k.val / 2, by omega⟩ 0 n) (fun a => by
        match a with
        | ⟨0, _⟩ => rfl
        | ⟨1, _⟩ => exact h.symm
        | ⟨2, _⟩ => rfl),
      shapeCast_apply _ shapeCasts_S4096x1024_S4096x1x1024 _ (ix2 ⟨k.val / 2, by omega⟩ n) (by
        rw [Shape.rowMajor_val_three, Shape.rowMajor_val_two]
        show k.val / 2 * 1024 + n.val = (k.val / 2 * 1 + 0) * 1024 + n.val
        omega), hlo, h]
  · rw [concatenate_pair_apply_right 1 _ _ concatenates_S4096x1x1024_S4096x1x1024_S4096x2x1024_d1 _ rfl rfl
      (ix3 ⟨k.val / 2, by omega⟩ 0 n) (fun a ha => by
        match a with
        | ⟨0, _⟩ => rfl
        | ⟨1, _⟩ => exact absurd rfl ha
        | ⟨2, _⟩ => rfl) (by show 0 + 1 = k.val % 2; omega),
      shapeCast_apply _ shapeCasts_S4096x1024_S4096x1x1024 _ (ix2 ⟨k.val / 2, by omega⟩ n) (by
        rw [Shape.rowMajor_val_three, Shape.rowMajor_val_two]
        show k.val / 2 * 1024 + n.val = (k.val / 2 * 1 + 0) * 1024 + n.val
        omega), hhi, h]

/-- A group vector broadcast over its group's 128 rows, read at row `r` of group `g`: the group's entry. -/
theorem group_apply (v : FVec Ideal S64x1024 .bf16) (g : Fin 64) (r : Fin 128) (n : Fin 1024) :
    broadcastTo S64x128x1024 (shapeCast S64x1x1024 v shapeCasts_S64x1024_S64x1x1024)
      broadcasts_S64x1x1024_S64x128x1024 (ix3 g r n) = v (ix2 g n) := by
  rw [broadcastTo_apply _ broadcasts_S64x1x1024_S64x128x1024 (ix3 g r n) (ix3 g 0 n) (fun a => by
      match a with
      | ⟨0, _⟩ => rfl
      | ⟨1, _⟩ => rfl
      | ⟨2, _⟩ => rfl),
    shapeCast_apply _ shapeCasts_S64x1024_S64x1x1024 _ (ix2 g n) (by
      rw [Shape.rowMajor_val_three, Shape.rowMajor_val_two]
      show g.val * 1024 + n.val = (g.val * 1 + 0) * 1024 + n.val
      omega)]

set_option maxRecDepth 65536 in
/-- THE BLOCK: the payload a grid point stores, at row `r` and block column `n`, is the layer of the point's blocks. -/
theorem pay_apply (p : Vec Ideal S4096x1024 .i8) (z : Vec Ideal S64x1024 .i8) (s : Vec Ideal S64x1024 .bf16)
    (x : Vec Ideal S128x8192 .bf16) (r : Fin 128) (n : Fin 1024) :
    k0_pay1 (F := Ideal) p z s x (ix2 r n)
      = linear (fun r k => x (ix2 r k)) (fun k n => p (ix2 k n)) (fun g n => s (ix2 g n)) (fun g n => z (ix2 g n)) r n := by
  unfold k0_pay1
  show FloatOps.matmul (F := Ideal) (φ₁ := .bf16) (φ₂ := .bf16) (DotDims.plain 128 8192 1024) none _ _ _ (ix2 r n) = _
  rw [Ideal.matmul_plain_apply, shapeCast_self]
  have h0 : (constant S128x1024 .f32 0x00000000#32 : FVec Ideal S128x1024 .f32) (ix2 r n) = 0 := by
    show Ideal.ofBits .f32 0 = 0
    simp [Ideal.ofBits, Ideal.ieee]
  rw [h0, zero_add]
  unfold linear
  refine Finset.sum_congr rfl fun k _ => congrArg (x (ix2 r k) * ·) ?_
  rw [shapeCast_apply _ shapeCasts_S64x128x1024_S8192x1024 (ix2 k n)
    (ix3 ⟨k.val / 128, by omega⟩ ⟨k.val % 128, by omega⟩ n) (by
      rw [Shape.rowMajor_val_three, Shape.rowMajor_val_two]
      show (k.val / 128 * 128 + k.val % 128) * 1024 + n.val = k.val * 1024 + n.val
      omega)]
  show (shapeCast S64x128x1024 _ shapeCasts_S8192x1024_S64x128x1024 _ - broadcastTo S64x128x1024 _ broadcasts_S64x1x1024_S64x128x1024 _ : EReal)
    * broadcastTo S64x128x1024 _ broadcasts_S64x1x1024_S64x128x1024 _ = _
  rw [group_apply, group_apply, shapeCast_apply _ shapeCasts_S8192x1024_S64x128x1024 _ (ix2 k n) (by
      rw [Shape.rowMajor_val_three, Shape.rowMajor_val_two]
      show k.val * 1024 + n.val = (k.val / 128 * 128 + k.val % 128) * 1024 + n.val
      omega)]
  unfold weight
  rw [← codes_apply (andi (extui 32 p natLt_8_32) (broadcast S4096x1024 15#32))
    (shrsi (extui 32 p natLt_8_32) (broadcast S4096x1024 4#32)) p (fun i => low_toNat (p i)) (fun i => high_toNat (p i)) k n]
  rfl

end Cert.Proof.Block

end
-- ==== Proof.Array.lean ====
/-
  What the kernel's arrays hold after its run: the grid's blocks put together are the layer of the arguments, and the
  result is that array reshaped.
-/
module

public import proofs.«01_k».proof.Proof.Block
public import proofs.«01_k».proof.Proof.Gen.KernelIdeal.Frame
public import Idealize.ShloMosaic.Lib.Pipeline.ValueKit

@[expose] public section

noncomputable section

namespace Cert.Proof.Array

open Idealize.ShloMosaic Idealize.ShloMosaic.TcCoe Idealize.SL.Sem
open Cert.KernelIdeal Cert.KernelIdeal.Gen Cert.Proof.Spec
open Idealize.ShloMosaic.Pipeline (Dat)

variable (m : (ℓ : Loc nD τ sig) → Buf (Elt Ideal) ℓ) (ρ : Dev nD → PrngReg)

/-! ### The windows' block indices at each grid point -/

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- The array column that block column `n` of grid point `t` is. -/
def col (t : Fin cfg0.N) (n : Fin 1024) : Fin 16384 :=
  ⟨t.val * 1024 + n.val, by have h : t.val < 16 := t.isLt; omega⟩

/-- The layer of device `c`'s arguments, at row `r` and column `n`. -/
def layer (c : Dev nD) (r : Fin 128) (n : Fin 16384) : EReal :=
  linear (fun r k => m ((c : Thread nD τ).loc main_arg0) (ValueIdx.ix3 r 0 k)) (fun k n => m ((c : Thread nD τ).loc main_arg1) (ValueIdx.ix2 k n))
    (fun g n => m ((c : Thread nD τ).loc main_arg2) (ValueIdx.ix2 g n)) (fun g n => m ((c : Thread nD τ).loc main_arg3) (ValueIdx.ix2 g n)) r n

/-! ### The blocks a grid point reads -/

/-- The region finds the activations reshaped to two axes. -/
theorem V_main_v0 (c : Dev nD) :
    V m c main_v0 = shapeCast S128x8192 (m ((c : Thread nD τ).loc main_arg0)) shapeCasts_S128x1x8192_S128x8192 := by
  show StableHlo.after (List.flatten [hostOps0]) (fun b => m (c, b)) (Proc.devRef .tc main_v0) = _
  simp only [List.flatten_cons, List.flatten_nil, List.append_nil]
  after_results <;> rfl

/-- The activations' block is all of them. -/
theorem x_apply (c : Dev nD) (t : Fin cfg0.N) (r : Fin 128) (k : Fin 8192) :
    iblk m c 0 t (ValueIdx.ix2 r k) = m ((c : Thread nD τ).loc main_arg0) (ValueIdx.ix3 r 0 k) := by
  have e : iblk m c 0 t (ValueIdx.ix2 r k) = V m c main_v0 (ValueIdx.ix2 r k) := by
    blk_simp [iblk]
    exact congrArg (V m c main_v0) (by blk_ext [idx0 t])
  rw [e, V_main_v0]
  exact shapeCast_apply _ shapeCasts_S128x1x8192_S128x8192 _ (ValueIdx.ix3 r 0 k) (by
    rw [Shape.rowMajor_val_three, Shape.rowMajor_val_two]
    show (r.val * 1 + 0) * 8192 + k.val = r.val * 8192 + k.val
    omega)

/-- The packed block at point `t` is the packed array's columns of that point. -/
theorem p_apply (c : Dev nD) (t : Fin cfg0.N) (k : Fin 4096) (n : Fin 1024) :
    iblk m c 1 t (ValueIdx.ix2 k n) = m ((c : Thread nD τ).loc main_arg1) (ValueIdx.ix2 k (col t n)) := by
  rw [← V_main_arg1 m c]
  blk_simp [iblk]
  exact congrArg (V m c main_arg1) (by blk_ext [idx1 t, col])

/-- The scales' block at point `t` is the scales' columns of that point. -/
theorem s_apply (c : Dev nD) (t : Fin cfg0.N) (g : Fin 64) (n : Fin 1024) :
    iblk m c 2 t (ValueIdx.ix2 g n) = m ((c : Thread nD τ).loc main_arg2) (ValueIdx.ix2 g (col t n)) := by
  rw [← V_main_arg2 m c]
  blk_simp [iblk]
  exact congrArg (V m c main_arg2) (by blk_ext [idx2 t, col])

/-- The zero points' block at point `t` is the zero points' columns of that point. -/
theorem z_apply (c : Dev nD) (t : Fin cfg0.N) (g : Fin 64) (n : Fin 1024) :
    iblk m c 3 t (ValueIdx.ix2 g n) = m ((c : Thread nD τ).loc main_arg3) (ValueIdx.ix2 g (col t n)) := by
  rw [← V_main_arg3 m c]
  blk_simp [iblk]
  exact congrArg (V m c main_arg3) (by blk_ext [idx3 t, col])

/-! ### The block a grid point writes, and the array -/

/-- What the body leaves in the output block is its one payload of the four input blocks. -/
theorem out_eq (x0 : Vec Ideal S128x8192 .bf16) (x1 : Vec Ideal S4096x1024 .i8) (x2 : Vec Ideal S64x1024 .bf16)
    (x3 : Vec Ideal S64x1024 .i8) : out0_4 x0 x1 x2 x3 = k0_pay1 x1 x3 x2 x0 := by
  have hz : (![0, 0] : Fin 2 → Nat) = fun _ => 0 := funext fun a => by fin_cases a <;> rfl
  unfold out0_4
  rw [View.canon_unit_zero hz, View.ld_unit_zero hz, View.ld_unit_zero hz, View.ld_unit_zero hz, View.ld_unit_zero hz]

/-- The block point `t` leaves, at row `r` and block column `n`, is the layer at that row and the point's column. -/
theorem after_apply (c : Dev nD) (t : Fin cfg0.N) (r : Fin 128) (n : Fin 1024) :
    (dats m 0 c).after 4 t (ValueIdx.ix2 r n) = layer m c r (col t n) := by
  refine (congrFun ((after0_4 m c t).trans (out_eq _ _ _ _)) (ValueIdx.ix2 r n)).trans ((Block.pay_apply _ _ _ _ r n).trans ?_)
  rw [layer, ← linear_column (col t)]
  congr 1
  · exact funext fun r => funext fun k => x_apply m c t r k
  · exact funext fun k => funext fun n => p_apply m c t k n
  · exact funext fun g => funext fun n => s_apply m c t g n
  · exact funext fun g => funext fun n => z_apply m c t g n

/-- The kernel's output array ends holding the layer. -/
theorem final_out (c : Dev nD) :
    (dats m 0 c).arrAt 4 cfg0.N = (fun i : S128x16384.Idx => layer m c (i 0) (i 1) : Buf (Elt Ideal) ((c : Thread nD τ).loc main_v1)) := by
  refine (dats m 0 c).arrAt_eq_of_covers 4 _ (by decide +kernel) fun t hf y => ?_
  have h : (dats m 0 c).after 4 t y = layer m c (y 0) (col t (y 1)) :=
    (congrArg ((dats m 0 c).after 4 t) (ValueIdx.eq_ix2 (n0 := 128) (n1 := 1024) y)).trans (after_apply m c t (y 0) (y 1))
  blk_simp
  rw [h]
  refine congrArg₂ (layer m c) (Fin.ext ?_) (Fin.ext ?_)
  · blk_simp [idx4 t]
  · blk_simp [idx4 t, col]

/-- The result after the run, at an index, is the layer at its row and column. -/
theorem result_apply (c : Dev nD) :
    Pipeline.afterTail₀ cfgs (dats m) 0 (V0 m) [hostOps1] c main_v2
      = (fun i : S128x1x16384.Idx => layer m c (i 0) (i 2) : Buf (Elt Ideal) ((c : Thread nD τ).loc main_v2)) := by
  have h := Pipeline.withArrays_arr spec0 launch0.win.arr_inj c (V0 m c) (fun w => (dats m 0 c).arrAt w cfg0.N) 4
  have e : Pipeline.afterTail₀ cfgs (dats m) 0 (V0 m) [hostOps1] c main_v2
      = shapeCast S128x1x16384 (Pipeline.withArrays spec0 c (V0 m c) (fun w => (dats m 0 c).arrAt w cfg0.N) (Proc.devRef .tc main_v1))
          shapeCasts_S128x16384_S128x1x16384 := by
    unfold Pipeline.afterTail₀
    simp only [List.flatten_cons, List.flatten_nil, List.append_nil]
    after_results <;> rfl
  rw [e]
  funext i
  refine (shapeCast_apply _ shapeCasts_S128x16384_S128x1x16384 i (ValueIdx.ix2 (n0 := 128) (n1 := 16384) (i 0) (i 2)) (by
    rw [Shape.rowMajor_val_three, Shape.rowMajor_val_two]
    have h1 : (i 1).val < 1 := (i 1).isLt
    show (i 0).val * 16384 + (i 2).val = ((i 0).val * 1 + (i 1).val) * 16384 + (i 2).val
    omega)).trans ?_
  exact (congrFun (h.trans (final_out m c)) _)

/-- THE KERNEL'S RUN: the result is the layer of the arguments, which end as launched. -/
theorem run : θ_run (defs (F := Ideal)) (onTc (τ := τ) (main (F := Ideal))) ⟨m, fun _ => 0, ρ⟩ fun r => ∀ c : Dev nD,
      r.2.mem ((c.tc : Thread nD τ).loc main_v2) = (fun i : S128x1x16384.Idx => layer m c (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_apply m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.Array

end
-- ==== Proof.Reference.lean ====
/-
  What the reference computes: its result, read at an index, is the layer of its four arguments.
-/
module

public import proofs.«01_k».proof.Proof.Spec
public import proofs.«01_k».proof.Proof.Gen.ReferenceIdeal.Read

@[expose] public section

noncomputable section

namespace Cert.Proof.Reference

open Idealize.ShloMosaic Idealize.ShloMosaic.ValueIdx Idealize.SL.Sem
open Cert.ReferenceIdeal Cert.ReferenceIdeal.Read Cert.Proof.Spec
open scoped BigOperators

/-- The unpacked word at byte row `r`, half `h`: read signed, that half's code. -/
theorem unpacked_toInt (p : (⟨S4096x16384, .i8⟩ : BufTy).Contents (Elt Ideal)) (r : Fin 4096) (h : Fin 2) (n : Fin 16384) :
    BitVec.toInt (val_main_v7 (F := Ideal) p (ix3 r h n)) = (code (p (ix2 r n)) h.val : Int) := by
  unfold val_main_v7
  match h with
  | ⟨0, _⟩ =>
    rw [concatenate_pair_apply_left 1 _ _ Gen.concatenates_S4096x1x16384_S4096x1x16384_S4096x2x16384_d1 _ rfl (ix3 r 0 n) (fun a => by
        match a with
        | ⟨0, _⟩ => rfl
        | ⟨1, _⟩ => rfl
        | ⟨2, _⟩ => rfl), val_main_v5_apply]
    rw [show idx_main_v5 (ix3 r 0 n) = ix2 r n from funext fun a => by match a with | ⟨0, _⟩ => rfl | ⟨1, _⟩ => rfl]
    rw [val_main_v2_apply, val_main_v0_apply, val_main_v1_apply, val_main_c_apply]
    exact low_toInt _
  | ⟨1, _⟩ =>
    rw [concatenate_pair_apply_right 1 _ _ Gen.concatenates_S4096x1x16384_S4096x1x16384_S4096x2x16384_d1 _ rfl rfl (ix3 r 0 n) (fun a ha => by
        match a with
        | ⟨0, _⟩ => rfl
        | ⟨1, _⟩ => exact absurd rfl ha
        | ⟨2, _⟩ => rfl) rfl, val_main_v6_apply]
    rw [show idx_main_v6 (ix3 r 0 n) = ix2 r n from funext fun a => by match a with | ⟨0, _⟩ => rfl | ⟨1, _⟩ => rfl]
    rw [val_main_v4_apply, val_main_v0_apply, val_main_v3_apply, val_main_c_0_apply]
    exact high_toInt _

/-- The reference's weight matrix at row `k`, column `n`. -/
theorem weight_apply (p : (⟨S4096x16384, .i8⟩ : BufTy).Contents (Elt Ideal)) (s : (⟨S64x16384, .bf16⟩ : BufTy).Contents (Elt Ideal))
    (z : (⟨S64x16384, .i8⟩ : BufTy).Contents (Elt Ideal)) (k : Fin 8192) (n : Fin 16384) :
    val_main_v18 (F := Ideal) p s z (ix2 k n)
      = weight (fun k n => p (ix2 k n)) (fun g n => s (ix2 g n)) (fun g n => z (ix2 g n)) k n := by
  have e18 : idx_main_v18 (ix2 k n) = ix3 ⟨k.val / 128, by omega⟩ ⟨k.val % 128, by omega⟩ n := funext fun a => Fin.ext (by
    match a with
    | ⟨0, _⟩ => show (k.val * 16384 + n.val) / 2097152 = k.val / 128; omega
    | ⟨1, _⟩ => show (k.val * 16384 + n.val) / 16384 % 128 = k.val % 128; omega
    | ⟨2, _⟩ => show (k.val * 16384 + n.val) % 16384 = n.val; omega)
  have e8 : idx_main_v8 (ix3 ⟨k.val / 128, by omega⟩ ⟨k.val % 128, by omega⟩ n) = ix3 ⟨k.val / 2, by omega⟩ ⟨k.val % 2, by omega⟩ n :=
    funext fun a => Fin.ext (by
      match a with
      | ⟨0, _⟩ => show ((k.val / 128 * 128 + k.val % 128) * 16384 + n.val) / 32768 = k.val / 2; omega
      | ⟨1, _⟩ => show ((k.val / 128 * 128 + k.val % 128) * 16384 + n.val) / 16384 % 2 = k.val % 2; omega
      | ⟨2, _⟩ => show ((k.val / 128 * 128 + k.val % 128) * 16384 + n.val) % 16384 = n.val; omega)
  have ez : ∀ (g : Fin 64) (r : Fin 128), idx_main_v12 (idx_main_v13 (ix3 g r n)) = ix2 g n := fun g r =>
    funext fun a => by match a with | ⟨0, _⟩ => rfl | ⟨1, _⟩ => rfl
  have es : ∀ (g : Fin 64) (r : Fin 128), idx_main_v15 (idx_main_v16 (ix3 g r n)) = ix2 g n := fun g r =>
    funext fun a => by match a with | ⟨0, _⟩ => rfl | ⟨1, _⟩ => rfl
  rw [val_main_v18_apply, e18, val_main_v17_apply, val_main_v14_apply, val_main_v9_apply, val_main_v8_apply, e8,
    val_main_v13_apply, val_main_v12_apply, ez, val_main_v11_apply, val_main_v10_apply, val_main_v16_apply, val_main_v15_apply, es]
  show ((((val_main_v7 (F := Ideal) p _ : BitVec 32).toInt : ℝ) : EReal) - (((BitVec.setWidth 32 _ : BitVec 32).toInt : ℝ) : EReal)) * _ = _
  rw [unpacked_toInt, wide_toInt]
  unfold weight
  simp only [Int.cast_natCast]

/-- THE REFERENCE'S RESULT at row `r`, column `n` is the layer of its arguments. -/
theorem result_apply (x : (⟨S128x1x8192, .bf16⟩ : BufTy).Contents (Elt Ideal)) (p : (⟨S4096x16384, .i8⟩ : BufTy).Contents (Elt Ideal))
    (s : (⟨S64x16384, .bf16⟩ : BufTy).Contents (Elt Ideal)) (z : (⟨S64x16384, .i8⟩ : BufTy).Contents (Elt Ideal)) (i : S128x1x16384.Idx) :
    val_main_v20 (F := Ideal) x p s z i
      = linear (fun r k => x (ix3 r 0 k)) (fun k n => p (ix2 k n)) (fun g n => s (ix2 g n)) (fun g n => z (ix2 g n)) (i 0) (i 2) := by
  rw [val_main_v20_apply]
  show val_main_v19 (F := Ideal) x p s z i = _
  rw [val_main_v19_apply]
  unfold linear
  refine Finset.sum_congr rfl fun k _ => ?_
  rw [show lidx_main_v19 i k = ix3 (i 0) 0 k from funext fun a => by
      match a with
      | ⟨0, _⟩ => rfl
      | ⟨1, _⟩ => exact Fin.ext (by have h : (i 1).val < 1 := (i 1).isLt; show (i 1).val = 0; omega)
      | ⟨2, _⟩ => rfl,
    show ridx_main_v19 i k = ix2 k (i 2) from funext fun a => by match a with | ⟨0, _⟩ => rfl | ⟨1, _⟩ => rfl]
  exact congrArg (x (ix3 (i 0) 0 k) * ·) (weight_apply p s z k (i 2))

end Cert.Proof.Reference

end
-- ==== Proof.lean ====
/-
  The proof of `Cert.Claim` (proofs.«01_k».proof.Defs): the three frames, the idealization's ledger, and the equality of
  the kernel's and the reference's results at the ideal instance. The mathematics is in the modules it imports:
  Proof/Spec.lean (the layer), Proof/Block.lean (one grid point), Proof/Array.lean (the kernel's arrays after its run),
  Proof/Reference.lean (the reference's result).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end as launched, and every counter reads zero: the program declares no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- At the ideal instance the kernel and the reference, run on equal arguments, end with equal results: both are the layer
    of the arguments, index by index. -/
theorem algebraic : Cert.algebraic_KernelIdeal_ReferenceIdeal (hKernelIdeal := Cert.KernelIdeal.Gen.facts)
    (hReferenceIdeal := Cert.ReferenceIdeal.Gen.facts) := fun m ρ m' ρ' _ hagree =>
  ⟨fun c i => Array.layer m c (i 0) (i 2), Array.run m ρ,
    (θ_run _ _ _).mono (fun _ h c => ⟨by
        rw [(h c).1, Cert.ReferenceIdeal.Read.val_main_v20_eq]
        obtain ⟨h0, h1, h2, h3⟩ := hagree c
        rw [h0, h1, h2, h3]
        exact funext fun i => Reference.result_apply _ _ _ _ i, (h c).2⟩)
      (Cert.ReferenceIdeal.Value.run (F := Ideal) m' ρ')⟩

/-- The certificate's claim: the three programs run and keep their arguments, the idealization rewrote nothing, and the
    kernel's result is the reference's at the ideal instance. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
